-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2x8192 : Shape := ⟨2, ![2, 8192]⟩
abbrev S8192x1024 : Shape := ⟨2, ![8192, 1024]⟩
abbrev S16x1024 : Shape := ⟨2, ![16, 1024]⟩
abbrev S16x64x1024 : Shape := ⟨3, ![16, 64, 1024]⟩
abbrev S_ : Shape := ⟨0, ![]⟩
abbrev S1x32x1024 : Shape := ⟨3, ![1, 32, 1024]⟩
abbrev S32x1024 : Shape := ⟨2, ![32, 1024]⟩

abbrev nBuf : Table → Nat
  | .hbm => 3
  | .shared => 1
  | .local .scVector .vmem => 4
  | _ => 0

abbrev bufTy : (tb : Table) → Fin (nBuf tb) → BufTy
  | .hbm, ⟨0, _⟩ => ⟨S2x8192, .i32⟩
  | .hbm, ⟨1, _⟩ => ⟨S8192x1024, .f32⟩
  | .hbm, ⟨2, _⟩ => ⟨S8192x1024, .f32⟩
  | .shared, ⟨0, _⟩ => ⟨S16x64x1024, .f32⟩
  | .local .scVector .vmem, ⟨0, _⟩ => ⟨S16x1024, .f32⟩
  | .local .scVector .vmem, ⟨1, _⟩ => ⟨S16x1024, .f32⟩
  | .local .scVector .vmem, ⟨2, _⟩ => ⟨S16x1024, .f32⟩
  | .local .scVector .vmem, ⟨3, _⟩ => ⟨S16x1024, .f32⟩
  | _, _ => ⟨S2x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch4 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c0_i32_0 : BitVec 32 := 0#32
  let c0_i32_1 : BitVec 32 := 0#32
  ![arg1.toNat, 0, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v3 : BitVec 32 := Scalar.addi v2 c128_i32
  let v4 : BitVec 32 := Scalar.addi v3 c0_i32
  let c0_i32_2 : BitVec 32 := 0#32
  ![v4.toNat, 0]
def k0_off3 (i : grid0.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v8 : BitVec 32 := Scalar.addi v2 c0_i32_3
  let c0_i32_4 : BitVec 32 := 0#32
  ![v8.toNat, 0]
def k0_off4 (i : grid0.Coords) : Fin 3 → Nat :=
  let arg1 : BitVec 32 := BitVec.ofNat 32 (i 1).val
  let c32_i32_8 : BitVec 32 := 32#32
  let c0_i32_9 : BitVec 32 := 0#32
  ![arg1.toNat, 32, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x8192 : Shape := ⟨2, ![2, 8192]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Windows.lean ====
/-
  The rows each tile copies, as sets of indices of the (8192, 1024) arrays and of the (16, 64, 1024) shared scratch, and the
  memrefs through which the kernel addresses them.

  Tile `(c, s)` (SparseCore `c`, subcore `s`) owns the 256 rows that start at `512 s + 256 c`: it moves the first 128 in eight
  chunks of 16 rows through its own four buffers, and the last 128 in four chunks of 32 rows through the two halves of row `s`
  of the SparseCore's shared scratch.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Copy

open Cert.KernelIdeal Cert.KernelIdeal.Gen

open Idealize.ShloMosaic
open Idealize.SL Idealize.SL.Sem

-- the kernel's memrefs as the body table passes them, closed constants: the table, the result, the four buffers, the shared scratch
local notation "xV" => (Memref.whole Cert.KernelIdeal.main_arg1_scv : Memref Cert.KernelIdeal.sig Kind.scVector Space.hbm Cert.KernelIdeal.S8192x1024 EltTy.f32)
local notation "oV" => (Memref.whole Cert.KernelIdeal.main_v0_scv : Memref Cert.KernelIdeal.sig Kind.scVector Space.hbm Cert.KernelIdeal.S8192x1024 EltTy.f32)
local notation "shV" => (Memref.whole Cert.KernelIdeal.cc0_scratch4 : Memref Cert.KernelIdeal.sig Kind.scVector Space.shared Cert.KernelIdeal.S16x64x1024 EltTy.f32)

/-! ## Bands of rows of the (8192, 1024) arrays -/

/-- The `n` rows from row `a` on. -/
def band (a n : ℕ) : Finset S8192x1024.Idx := Finset.univ.filter fun x => a ≤ (x 0).val ∧ (x 0).val < a + n

theorem mem_band {a n : ℕ} {x : S8192x1024.Idx} : x ∈ band a n ↔ a ≤ (x 0).val ∧ (x 0).val < a + n := by
  simp [band]

/-- Two bands of which one ends before the other starts have no index in common. -/
theorem band_disjoint {a n b k : ℕ} (h : a + n ≤ b ∨ b + k ≤ a) : Disjoint (band a n) (band b k) :=
  Finset.disjoint_left.mpr fun x hx hy => by rw [mem_band] at hx hy; omega

/-- `N` bands of `n` rows each, one after the other, are the band of all their rows. -/
theorem band_cover (a n N : ℕ) : (Finset.univ : Finset (Fin N)).biUnion (fun r => band (a + n * r.val) n) = band a (n * N) := by
  ext x
  simp only [Finset.mem_biUnion, Finset.mem_univ, true_and, mem_band]
  constructor
  · rintro ⟨r, h₁, h₂⟩
    have : n * (r.val + 1) ≤ n * N := Nat.mul_le_mul_left n r.isLt
    rw [Nat.mul_add] at this
    omega
  · rintro ⟨h₁, h₂⟩
    have hn : 0 < n := by rcases Nat.eq_zero_or_pos n with rfl | h <;> [(simp at h₂; omega); exact h]
    have hlt : ((x 0).val - a) / n < N := by rw [Nat.div_lt_iff_lt_mul hn, Nat.mul_comm N n]; omega
    have h₃ := Nat.div_mul_le_self ((x 0).val - a) n
    have h₄ := Nat.lt_div_mul_add (a := (x 0).val - a) hn
    rw [Nat.mul_comm] at h₃ h₄
    exact ⟨⟨_, hlt⟩, by simp only; omega, by simp only; omega⟩

/-- Those bands are disjoint from one another. -/
theorem bands_disjoint (a n N : ℕ) : ∀ r ∈ (Finset.univ : Finset (Fin N)), ∀ r' ∈ (Finset.univ : Finset (Fin N)), r ≠ r' →
    Disjoint (band (a + n * r.val) n) (band (a + n * r'.val) n) := fun r _ r' _ h => by
  apply band_disjoint
  rcases Nat.lt_or_gt_of_ne (fun e => h (Fin.ext e)) with h | h
  · left; have := Nat.mul_le_mul_left n h; rw [Nat.mul_succ] at this; omega
  · right; have := Nat.mul_le_mul_left n h; rw [Nat.mul_succ] at this; omega

/-- A band in two. -/
theorem band_union (a n k : ℕ) : band a n ∪ band (a + n) k = band a (n + k) := by
  ext x; simp only [Finset.mem_union, mem_band]; omega

theorem band_univ : band 0 8192 = Finset.univ := by
  ext x
  have : (x 0).val < 8192 := (x 0).isLt
  simp only [mem_band, Finset.mem_univ, iff_true]; omega

/-! ## The windows the body addresses -/

variable (L : grid0.Coords)

/-- The first row of the tile at `L`. -/
abbrev base (L : grid0.Coords) : ℕ := 512 * (L 1).val + 256 * (L 0).val

/-- The 16 rows of the table (`x`) and of the result (`o`) at the printed offset `w`, and the 32 rows. -/
abbrev x16 (w : BitVec 32) (h : ∀ a, k0_off3 L w a + S16x1024.size a ≤ S8192x1024.size a) : Memref sig .scVector .hbm S16x1024 .f32 :=
  (xV).slice (Rect.unit (s := S8192x1024) (k0_off3 L w) S16x1024.size h) (fun _ => rfl)
abbrev o16 (w : BitVec 32) (h : ∀ a, k0_off3 L w a + S16x1024.size a ≤ S8192x1024.size a) : Memref sig .scVector .hbm S16x1024 .f32 :=
  (oV).slice (Rect.unit (s := S8192x1024) (k0_off3 L w) S16x1024.size h) (fun _ => rfl)
abbrev x32 (w : BitVec 32) (h : ∀ a, k0_off2 L w a + S32x1024.size a ≤ S8192x1024.size a) : Memref sig .scVector .hbm S32x1024 .f32 :=
  (xV).slice (Rect.unit (s := S8192x1024) (k0_off2 L w) S32x1024.size h) (fun _ => rfl)
abbrev o32 (w : BitVec 32) (h : ∀ a, k0_off2 L w a + S32x1024.size a ≤ S8192x1024.size a) : Memref sig .scVector .hbm S32x1024 .f32 :=
  (oV).slice (Rect.unit (s := S8192x1024) (k0_off2 L w) S32x1024.size h) (fun _ => rfl)
/-- The two halves of the tile's row of the shared scratch. -/
abbrev shA : Memref sig .scVector .shared S32x1024 .f32 :=
  ((shV).slice (Rect.unit (s := S16x64x1024) (k0_off1 L) S1x32x1024.size (k0_off1_inb L)) (fun _ => rfl)).squeeze S32x1024 squeezes_S1x32x1024_S32x1024
abbrev shB : Memref sig .scVector .shared S32x1024 .f32 :=
  ((shV).slice (Rect.unit (s := S16x64x1024) (k0_off4 L) S1x32x1024.size (k0_off4_inb L)) (fun _ => rfl)).squeeze S32x1024 squeezes_S1x32x1024_S32x1024

/-- A rectangle of whole rows is a band. -/
theorem set_rows {off size : Fin 2 → ℕ} {inb : ∀ a, off a + size a ≤ S8192x1024.size a} {a n : ℕ} (h₀ : off = ![a, 0]) (h₁ : size = ![n, 1024]) :
    (Rect.unit (s := S8192x1024) off size inb).set = band a n := by
  subst h₀; subst h₁
  ext x
  have : (x 1).val < 1024 := (x 1).isLt
  rw [Rect.mem_set_unit, mem_band, Fin.forall_fin_two]
  simp only [Matrix.cons_val_zero, Matrix.cons_val_one]
  constructor
  · rintro ⟨h, -⟩; exact h
  · intro h; exact ⟨h, by omega⟩

theorem set_x16 (r : Fin 8) : (x16 L (BitVec.ofNat 32 (16 * r.val)) (k0_off3_inb L r)).view.set = band (base L + 16 * r.val) 16 := by
  show ((View.whole (main_arg1_scv : Ref sig .scVector)).slice _).set = _
  rw [View.set_slice_whole]
  exact set_rows (k0_off3_eq L r) rfl
theorem set_o16 (r : Fin 8) : (o16 L (BitVec.ofNat 32 (16 * r.val)) (k0_off3_inb L r)).view.set = band (base L + 16 * r.val) 16 := by
  show ((View.whole (main_v0_scv : Ref sig .scVector)).slice _).set = _
  rw [View.set_slice_whole]
  exact set_rows (k0_off3_eq L r) rfl
theorem off2_rows (r : Fin 4) : k0_off2 L (BitVec.ofNat 32 (32 * r.val)) = ![base L + 128 + 32 * r.val, 0] := by
  rw [k0_off2_eq, show base L + 128 + 32 * r.val = 512 * (L 1).val + 256 * (L 0).val + 32 * r.val + 128 by unfold base; omega]
theorem set_x32 (r : Fin 4) : (x32 L (BitVec.ofNat 32 (32 * r.val)) (k0_off2_inb L r)).view.set = band (base L + 128 + 32 * r.val) 32 := by
  show ((View.whole (main_arg1_scv : Ref sig .scVector)).slice _).set = _
  rw [View.set_slice_whole]
  exact set_rows (off2_rows L r) rfl
theorem set_o32 (r : Fin 4) : (o32 L (BitVec.ofNat 32 (32 * r.val)) (k0_off2_inb L r)).view.set = band (base L + 128 + 32 * r.val) 32 := by
  show ((View.whole (main_v0_scv : Ref sig .scVector)).slice _).set = _
  rw [View.set_slice_whole]
  exact set_rows (off2_rows L r) rfl

/-! ## The shared scratch -/

/-- Row `i` of the shared scratch, and its part of 32 lines from line `b` on. -/
def shRow (i : ℕ) : Finset S16x64x1024.Idx := Finset.univ.filter fun x => (x 0).val = i
def shHalf (i b : ℕ) : Finset S16x64x1024.Idx := Finset.univ.filter fun x => (x 0).val = i ∧ b ≤ (x 1).val ∧ (x 1).val < b + 32

theorem shHalf_disjoint (i : ℕ) : Disjoint (shHalf i 0) (shHalf i 32) :=
  Finset.disjoint_left.mpr fun x hx hy => by simp only [shHalf, Finset.mem_filter, Finset.mem_univ, true_and] at hx hy; omega
theorem shHalf_union (i : ℕ) : shHalf i 0 ∪ shHalf i 32 = shRow i := by
  ext x
  have : (x 1).val < 64 := (x 1).isLt
  simp only [shHalf, shRow, Finset.mem_union, Finset.mem_filter, Finset.mem_univ, true_and]; omega
theorem shRow_disjoint : ∀ i ∈ (Finset.univ : Finset (Fin 16)), ∀ j ∈ (Finset.univ : Finset (Fin 16)), i ≠ j → Disjoint (shRow i.val) (shRow j.val) :=
  fun i _ j _ h => Finset.disjoint_left.mpr fun x hx hy => by
    simp only [shRow, Finset.mem_filter, Finset.mem_univ, true_and] at hx hy
    exact h (Fin.ext (hx.symm.trans hy))
theorem shRow_cover : (Finset.univ : Finset (Fin 16)).biUnion (fun i => shRow i.val) = Finset.univ := by
  ext x
  have : (x 0).val < 16 := (x 0).isLt
  simp only [shRow, Finset.mem_biUnion, Finset.mem_filter, Finset.mem_univ, true_and, iff_true]
  exact ⟨⟨_, this⟩, rfl⟩

theorem set_half {off : Fin 3 → ℕ} {inb : ∀ a, off a + S1x32x1024.size a ≤ S16x64x1024.size a} {i b : ℕ} (h₀ : off = ![i, b, 0]) :
    (Rect.unit (s := S16x64x1024) off S1x32x1024.size inb).set = shHalf i b := by
  subst h₀
  ext x
  have : (x 2).val < 1024 := (x 2).isLt
  rw [Rect.mem_set_unit]
  simp only [shHalf, Finset.mem_filter, Finset.mem_univ, true_and]
  constructor
  · intro h
    have h0 : i ≤ (x 0).val ∧ (x 0).val < i + 1 := h 0
    have h1 : b ≤ (x 1).val ∧ (x 1).val < b + 32 := h 1
    omega
  · rintro ⟨h0, h1⟩ a
    match a with
    | 0 => exact (show i ≤ (x 0).val ∧ (x 0).val < i + 1 by omega)
    | 1 => exact h1
    | 2 => exact (show 0 ≤ (x 2).val ∧ (x 2).val < 0 + 1024 by omega)

theorem set_shA : (shA L).view.set = shHalf (L 1).val 0 := by
  show (((View.whole (cc0_scratch4 : Ref sig .scVector)).slice (Rect.unit (s := S16x64x1024) (k0_off1 L) S1x32x1024.size (k0_off1_inb L))).reshape S32x1024 squeezes_S1x32x1024_S32x1024.numel_eq).set = _
  rw [View.set_reshape, View.set_slice_whole]
  exact set_half (k0_off1_eq L)
theorem set_shB : (shB L).view.set = shHalf (L 1).val 32 := by
  show (((View.whole (cc0_scratch4 : Ref sig .scVector)).slice (Rect.unit (s := S16x64x1024) (k0_off4 L) S1x32x1024.size (k0_off4_inb L))).reshape S32x1024 squeezes_S1x32x1024_S32x1024.numel_eq).set = _
  rw [View.set_reshape, View.set_slice_whole]
  exact set_half (k0_off4_eq L)

end Cert.Proof.Copy

end
-- ==== Proof.Tile.lean ====
/-
  What one tile does. Its 256 rows of the table go, chunk by chunk, through its own four buffers and through the two halves of
  its row of the shared scratch, to the same 256 rows of the result: afterwards those rows of the result hold the table's.
-/
module

public import proofs.«01_k».proof.Proof.Windows

@[expose] public section

noncomputable section

namespace Cert.Proof.Copy

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The resources: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The positions (first argument), the table (second argument) and the result, as locations of device `d`. -/
abbrev pLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0
/-- The shared scratch of SparseCore `c` of device `d`. -/
abbrev shRef (c : Fin τ.nSC) : DevRef τ sig := ⟨.shared, ⟨0, by decide⟩, c⟩
abbrev shLoc (d : Dev nD) (c : Fin τ.nSC) : Loc nD τ sig := (d, shRef c)

local notation "xV" => (Memref.whole Cert.KernelIdeal.main_arg1_scv : Memref Cert.KernelIdeal.sig Kind.scVector Space.hbm Cert.KernelIdeal.S8192x1024 EltTy.f32)
local notation "oV" => (Memref.whole Cert.KernelIdeal.main_v0_scv : Memref Cert.KernelIdeal.sig Kind.scVector Space.hbm Cert.KernelIdeal.S8192x1024 EltTy.f32)
local notation "b0" => (Memref.whole Cert.KernelIdeal.cc0_scratch0 : Memref Cert.KernelIdeal.sig Kind.scVector Space.vmem Cert.KernelIdeal.S16x1024 EltTy.f32)
local notation "b1" => (Memref.whole Cert.KernelIdeal.cc0_scratch1 : Memref Cert.KernelIdeal.sig Kind.scVector Space.vmem Cert.KernelIdeal.S16x1024 EltTy.f32)
local notation "b2" => (Memref.whole Cert.KernelIdeal.cc0_scratch2 : Memref Cert.KernelIdeal.sig Kind.scVector Space.vmem Cert.KernelIdeal.S16x1024 EltTy.f32)
local notation "b3" => (Memref.whole Cert.KernelIdeal.cc0_scratch3 : Memref Cert.KernelIdeal.sig Kind.scVector Space.vmem Cert.KernelIdeal.S16x1024 EltTy.f32)
local notation "shV" => (Memref.whole Cert.KernelIdeal.cc0_scratch4 : Memref Cert.KernelIdeal.sig Kind.scVector Space.shared Cert.KernelIdeal.S16x64x1024 EltTy.f32)

section Tile

variable (d : Dev nD) (L : grid0.Coords)

abbrev cV (L : grid0.Coords) : Fin τ.nSC := (L 0).castLE hcore0
abbrev jV (L : grid0.Coords) : Fin τ.nSub := (L 1).castLE hsub0
local notation "tV" => V (nD := nD) d (cV L) (jV L)

/-! ## The tile's rows, window by window -/

theorem bi_eq {P Q : sProp 𝕄} (h : P ⊣⊢ Q) : P = Q := equiv_iff.mp ⟨h.1, h.2⟩

/-- The members of `s` that a one-to-one `f` names, and the rest. -/
theorem bigSep_named {I J : Type} [DecidableEq I] [DecidableEq J] [Fintype J] {s : Finset I} {f : J → I} (hf : Function.Injective f) (hs : ∀ j, f j ∈ s)
    (Φ : I → sProp 𝕄) : bigSep s Φ = iprop((bigSep Finset.univ fun j => Φ (f j)) ∗ bigSep (s \ Finset.univ.image f) Φ) := by
  rw [SparseCore.bigSep_sdiff_split' (s := s) (t := Finset.univ.image f) fun i hi => by obtain ⟨j, -, rfl⟩ := Finset.mem_image.mp hi; exact hs j,
    SparseCore.bigSep_image_of_injOn hf.injOn]

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit d L in
/-- The 256 rows from row `a` on of the table are eight chunks of 16 and four of 32. -/
theorem x_rows (d : Dev nD) (a : ℕ) (f : Buf (Elt F) (xLoc d)) :
    (xLoc d ↦[band a 256]{fullShare} f : sProp 𝕄)
      = iprop((bigSep Finset.univ fun r : Fin 8 => xLoc d ↦[band (a + 16 * r.val) 16]{fullShare} f)
          ∗ bigSep Finset.univ fun r : Fin 4 => xLoc d ↦[band (a + 128 + 32 * r.val) 32]{fullShare} f) := by
  rw [← pointsTo_biUnion Finset.univ (ℓ := xLoc d) (fun r : Fin 8 => band (a + 16 * r.val) 16) (bands_disjoint a 16 8),
    ← pointsTo_biUnion Finset.univ (ℓ := xLoc d) (fun r : Fin 4 => band (a + 128 + 32 * r.val) 32) (bands_disjoint (a + 128) 32 4),
    band_cover, band_cover, ← bi_eq (pointsTo_union (band_disjoint (.inl le_rfl))), band_union]
omit d L in
/-- The same of the result. -/
theorem o_rows (d : Dev nD) (a : ℕ) (f : Buf (Elt F) (oLoc d)) :
    (oLoc d ↦[band a 256]{fullShare} f : sProp 𝕄)
      = iprop((bigSep Finset.univ fun r : Fin 8 => oLoc d ↦[band (a + 16 * r.val) 16]{fullShare} f)
          ∗ bigSep Finset.univ fun r : Fin 4 => oLoc d ↦[band (a + 128 + 32 * r.val) 32]{fullShare} f) := by
  rw [← pointsTo_biUnion Finset.univ (ℓ := oLoc d) (fun r : Fin 8 => band (a + 16 * r.val) 16) (bands_disjoint a 16 8),
    ← pointsTo_biUnion Finset.univ (ℓ := oLoc d) (fun r : Fin 4 => band (a + 128 + 32 * r.val) 32) (bands_disjoint (a + 128) 32 4),
    band_cover, band_cover, ← bi_eq (pointsTo_union (band_disjoint (.inl le_rfl))), band_union]

/-- A chunk of the table or of the result, held through the memref by which the body addresses it. -/
abbrev x16P (w : BitVec 32) (h : ∀ a, k0_off3 L w a + S16x1024.size a ≤ S8192x1024.size a) (f : Buf (Elt F) (xLoc d)) : sProp 𝕄 :=
  (x16 L w h).view.loc tV ↦[(x16 L w h).view.set]{fullShare} f
abbrev o16P (w : BitVec 32) (h : ∀ a, k0_off3 L w a + S16x1024.size a ≤ S8192x1024.size a) (f : Buf (Elt F) (oLoc d)) : sProp 𝕄 :=
  (o16 L w h).view.loc tV ↦[(o16 L w h).view.set]{fullShare} f
abbrev x32P (w : BitVec 32) (h : ∀ a, k0_off2 L w a + S32x1024.size a ≤ S8192x1024.size a) (f : Buf (Elt F) (xLoc d)) : sProp 𝕄 :=
  (x32 L w h).view.loc tV ↦[(x32 L w h).view.set]{fullShare} f
abbrev o32P (w : BitVec 32) (h : ∀ a, k0_off2 L w a + S32x1024.size a ≤ S8192x1024.size a) (f : Buf (Elt F) (oLoc d)) : sProp 𝕄 :=
  (o32 L w h).view.loc tV ↦[(o32 L w h).view.set]{fullShare} f

theorem x16P_eq (r : Fin 8) (f : Buf (Elt F) (xLoc d)) :
    (x16P d L (BitVec.ofNat 32 (16 * r.val)) (k0_off3_inb L r) f : sProp 𝕄) = xLoc d ↦[band (base L + 16 * r.val) 16]{fullShare} f :=
  congrArg (fun S => (xLoc d ↦[S]{fullShare} f : sProp 𝕄)) (set_x16 L r)
theorem x32P_eq (r : Fin 4) (f : Buf (Elt F) (xLoc d)) :
    (x32P d L (BitVec.ofNat 32 (32 * r.val)) (k0_off2_inb L r) f : sProp 𝕄) = xLoc d ↦[band (base L + 128 + 32 * r.val) 32]{fullShare} f :=
  congrArg (fun S => (xLoc d ↦[S]{fullShare} f : sProp 𝕄)) (set_x32 L r)
/-- The tile's rows of the table, chunk by chunk in the body's spelling. -/
theorem x_tile (f : Buf (Elt F) (xLoc d)) :
    (xLoc d ↦[band (base L) 256]{fullShare} f : sProp 𝕄)
      = iprop((x16P d L 0#32 (k0_off3_inb L 0) f ∗ x16P d L 16#32 (k0_off3_inb L 1) f ∗ x16P d L 32#32 (k0_off3_inb L 2) f
          ∗ x16P d L 48#32 (k0_off3_inb L 3) f ∗ x16P d L 64#32 (k0_off3_inb L 4) f ∗ x16P d L 80#32 (k0_off3_inb L 5) f
          ∗ x16P d L 96#32 (k0_off3_inb L 6) f ∗ x16P d L 112#32 (k0_off3_inb L 7) f)
        ∗ x32P d L 0#32 (k0_off2_inb L 0) f ∗ x32P d L 32#32 (k0_off2_inb L 1) f ∗ x32P d L 64#32 (k0_off2_inb L 2) f
          ∗ x32P d L 96#32 (k0_off2_inb L 3) f) := by
  rw [x_rows, bigSep_fin8, bigSep_fin4]
  simp only [← x16P_eq, ← x32P_eq]
  rfl
theorem o16P_eq (r : Fin 8) (f : Buf (Elt F) (oLoc d)) :
    (o16P d L (BitVec.ofNat 32 (16 * r.val)) (k0_off3_inb L r) f : sProp 𝕄) = oLoc d ↦[band (base L + 16 * r.val) 16]{fullShare} f :=
  congrArg (fun S => (oLoc d ↦[S]{fullShare} f : sProp 𝕄)) (set_o16 L r)
theorem o32P_eq (r : Fin 4) (f : Buf (Elt F) (oLoc d)) :
    (o32P d L (BitVec.ofNat 32 (32 * r.val)) (k0_off2_inb L r) f : sProp 𝕄) = oLoc d ↦[band (base L + 128 + 32 * r.val) 32]{fullShare} f :=
  congrArg (fun S => (oLoc d ↦[S]{fullShare} f : sProp 𝕄)) (set_o32 L r)
/-- The tile's rows of the result likewise. -/
theorem o_tile (f : Buf (Elt F) (oLoc d)) :
    (oLoc d ↦[band (base L) 256]{fullShare} f : sProp 𝕄)
      = iprop((o16P d L 0#32 (k0_off3_inb L 0) f ∗ o16P d L 16#32 (k0_off3_inb L 1) f ∗ o16P d L 32#32 (k0_off3_inb L 2) f
          ∗ o16P d L 48#32 (k0_off3_inb L 3) f ∗ o16P d L 64#32 (k0_off3_inb L 4) f ∗ o16P d L 80#32 (k0_off3_inb L 5) f
          ∗ o16P d L 96#32 (k0_off3_inb L 6) f ∗ o16P d L 112#32 (k0_off3_inb L 7) f)
        ∗ o32P d L 0#32 (k0_off2_inb L 0) f ∗ o32P d L 32#32 (k0_off2_inb L 1) f ∗ o32P d L 64#32 (k0_off2_inb L 2) f
          ∗ o32P d L 96#32 (k0_off2_inb L 3) f) := by
  rw [o_rows, bigSep_fin8, bigSep_fin4]
  simp only [← o16P_eq, ← o32P_eq]
  rfl

/-- The tile's row of the shared scratch is its two halves. -/
theorem sh_tile (f : Buf (Elt F) (shLoc d (cV L))) :
    (shLoc d (cV L) ↦[shRow (L 1).val]{fullShare} f : sProp 𝕄)
      = iprop(((shA L).view.loc tV ↦[(shA L).view.set]{fullShare} f) ∗ (shB L).view.loc tV ↦[(shB L).view.set]{fullShare} f) := by
  rw [set_shA, set_shB, ← shHalf_union]
  exact bi_eq (pointsTo_union (shHalf_disjoint _))

/-! ## The tile's own buffers and semaphores -/

/-- Its twelve transfer semaphores. -/
abbrev cell (k : Fin 12) : GSem nD τ sig := (tV, .dma k)
/-- Its four buffers. -/
abbrev bufRef (k : Fin 4) : DevRef τ sig := (Proc.scVector (cV L) (jV L)).devRef ⟨.vmem, k, rfl⟩

theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

theorem ownSems0_V :
    (ownSems0 tV : sProp 𝕄)
      = iprop((bigSep Finset.univ fun k : Fin 12 => semVal (cell d L k) 0)
          ∗ bigSep (ownCells tV \ Finset.univ.image (cell d L)) fun g => semVal g 0) := by
  unfold SparseCore.Cfg.ownSems0
  refine bigSep_named (f := cell d L) (fun k k' h => ?_) (fun k => mem_ownCells.mpr ⟨rfl, ?_⟩) _
  · exact SemLoc.dma.inj (Prod.mk.inj h).2
  · show (SemLoc.dma k : SemLoc sig).isScoped .scVector = true
    revert k; decide

theorem ownBufs_V :
    (ownBufs tV : sProp 𝕄)
      = iprop((bigSep Finset.univ fun k : Fin 4 => iprop(∃ f, ((d, bufRef L k) : Loc nD τ sig) ↦{fullShare} f))
          ∗ bigSep (ownRefs (τ := τ) (.scVector (cV L) (jV L)) \ Finset.univ.image (bufRef L))
              fun b => iprop(∃ f, ((d, b) : Loc nD τ sig) ↦{fullShare} f)) := by
  unfold SparseCore.Cfg.ownBufs
  refine bigSep_named (f := bufRef L) (fun k k' h => ?_) (fun k => SparseCore.Cfg.mem_ownRefs_of_owner (p := Proc.scVector (cV L) (jV L)) rfl) _
  have := congrArg (fun b : Ref sig .scVector => b.idx.val) (Proc.devRef_injective _ h)
  exact Fin.ext this

/-- The two halves, each at contents of its own, are the row at some contents. -/
theorem sh_join (f g : Buf (Elt F) (shLoc d (cV L))) :
    iprop(((shA L).view.loc tV ↦[(shA L).view.set]{fullShare} f) ∗ (shB L).view.loc tV ↦[(shB L).view.set]{fullShare} g)
      ⊢ (iprop(∃ s, shLoc d (cV L) ↦[shRow (L 1).val]{fullShare} s) : sProp 𝕄) := by
  rw [set_shA, set_shB, ← shHalf_union]
  refine (pointsTo_join (ℓ := shLoc d (cV L)) (shHalf_disjoint _)).trans ?_
  iintro H; iexists _; iexact H

/-! ## What arrives -/

/-- A chunk of the result written with what a buffer `v` holds once the table's chunk has been copied into it holds the table's rows. -/
theorem o16_filled {sp : Space} (v : View sig .scVector sp S16x1024 .f32) (g : v.ty.Contents (Elt F)) (w : BitVec 32)
    (h : ∀ a, k0_off3 L w a + S16x1024.size a ≤ S8192x1024.size a) (x : Buf (Elt F) (xLoc d)) (o : Buf (Elt F) (oLoc d)) :
    ((o16 L w h).view.loc tV ↦[(o16 L w h).view.set]{fullShare} (o16 L w h).view.writes (Elt F) o
        [⟨Rect.whole S16x1024, v.read (Elt F) (v.write (Elt F) g ((x16 L w h).view.read (Elt F) x) Finset.univ)⟩] : sProp 𝕄)
      = o16P d L w h x := by
  rw [View.read_write_univ, ← View.write_univ_eq_writes_whole, View.writes_nil]
  refine pointsTo_congr fun i hi => ?_
  obtain ⟨y, -, rfl⟩ := Finset.mem_map.mp hi
  rw [View.write_emb_of_mem _ _ (Finset.mem_univ y)]
  rfl
/-- The same of a chunk of 32 rows, through a half of the shared scratch. -/
theorem o32_filled {sp : Space} (v : View sig .scVector sp S32x1024 .f32) (g : v.ty.Contents (Elt F)) (ps : List (View.Piece (Elt F) S32x1024 .f32)) (w : BitVec 32)
    (h : ∀ a, k0_off2 L w a + S32x1024.size a ≤ S8192x1024.size a) (x : Buf (Elt F) (xLoc d)) (o : Buf (Elt F) (oLoc d)) :
    ((o32 L w h).view.loc tV ↦[(o32 L w h).view.set]{fullShare} (o32 L w h).view.writes (Elt F) o
        [⟨Rect.whole S32x1024, v.read (Elt F) (v.writes (Elt F) g (⟨Rect.whole S32x1024, (x32 L w h).view.read (Elt F) x⟩ :: ps))⟩] : sProp 𝕄)
      = o32P d L w h x := by
  rw [← View.write_univ_eq_writes_whole v, View.read_write_univ, ← View.write_univ_eq_writes_whole, View.writes_nil]
  refine pointsTo_congr fun i hi => ?_
  obtain ⟨y, -, rfl⟩ := Finset.mem_map.mp hi
  rw [View.write_emb_of_mem _ _ (Finset.mem_univ y)]
  rfl

variable [FloatOps F]

/-- The body, from the tile's windows, buffers and counters in its own spelling. -/
theorem run_body (O : CellTallies nD τ sig (HIx 1)) (W : Waits sig (HIx 1)) (x : Buf (Elt F) (xLoc d)) (o : Buf (Elt F) (oLoc d))
    (s : Buf (Elt F) (shLoc d (cV L))) :
    iprop((Transfers.MayWaits tV (default : HIx 1) O : sProp 𝕄)
        ∗ (xLoc d ↦[band (base L) 256]{fullShare} x) ∗ (oLoc d ↦[band (base L) 256]{fullShare} o)
        ∗ (shLoc d (cV L) ↦[shRow (L 1).val]{fullShare} s)
        ∗ (bigSep Finset.univ fun k : Fin 4 => iprop(∃ f, ((d, bufRef L k) : Loc nD τ sig) ↦{fullShare} f))
        ∗ (bigSep Finset.univ fun k : Fin 12 => semVal (cell d L k) 0)
        ∗ owes tV O W)
      ⊢ wp frame (wpE (defs₀ (F := F)) 𝒱₀ tV none) Set.univ
          (cc0_copy_kernel L xV (Memref.isWhole_whole _) oV (Memref.isWhole_whole _) b0 (Memref.isWhole_whole _) b1 (Memref.isWhole_whole _)
            b2 (Memref.isWhole_whole _) b3 (Memref.isWhole_whole _) shV (Memref.isWhole_whole _) cc0_scratch5 cc0_scratch6 cc0_scratch7 cc0_scratch8
            cc0_scratch9 cc0_scratch10 cc0_scratch11 cc0_scratch12 cc0_scratch13 cc0_scratch14 cc0_scratch15 cc0_scratch16)
          fun _ => iprop((xLoc d ↦[band (base L) 256]{fullShare} x) ∗ (oLoc d ↦[band (base L) 256]{fullShare} (x : Buf (Elt F) (oLoc d)))
            ∗ (∃ s', shLoc d (cV L) ↦[shRow (L 1).val]{fullShare} s')
            ∗ (bigSep Finset.univ fun k : Fin 4 => iprop(∃ f, ((d, bufRef L k) : Loc nD τ sig) ↦{fullShare} f))
            ∗ (bigSep Finset.univ fun k : Fin 12 => semVal (cell d L k) 0)
            ∗ ∃ W', owes tV O W') := by
  rw [bigSep_fin4, bigSep_fin12, x_tile, o_tile, o_tile, sh_tile]
  iintro ⟨#Hmw, ⟨⟨Hx0, Hx1, Hx2, Hx3, Hx4, Hx5, Hx6, Hx7⟩, Hy0, Hy1, Hy2, Hy3⟩, ⟨⟨Ho0, Ho1, Ho2, Ho3, Ho4, Ho5, Ho6, Ho7⟩, Hq0, Hq1, Hq2, Hq3⟩,
    ⟨HsA, HsB⟩, ⟨⟨%f0, Hb0⟩, ⟨%f1, Hb1⟩, ⟨%f2, Hb2⟩, ⟨%f3, Hb3⟩⟩, ⟨Hc0, Hc1, Hc2, Hc3, Hc4, Hc5, Hc6, Hc7, Hc8, Hc9, Hc10, Hc11⟩, HO⟩
  ihave Hb0' := (Entails.of_eq (show (((d, bufRef L 0) : Loc nD τ sig) ↦{fullShare} f0 : sProp 𝕄) = (b0).view.loc tV ↦{fullShare} f0 from rfl)) $$ Hb0
  ihave Hb1' := (Entails.of_eq (show (((d, bufRef L 1) : Loc nD τ sig) ↦{fullShare} f1 : sProp 𝕄) = (b1).view.loc tV ↦{fullShare} f1 from rfl)) $$ Hb1
  ihave Hb2' := (Entails.of_eq (show (((d, bufRef L 2) : Loc nD τ sig) ↦{fullShare} f2 : sProp 𝕄) = (b2).view.loc tV ↦{fullShare} f2 from rfl)) $$ Hb2
  ihave Hb3' := (Entails.of_eq (show (((d, bufRef L 3) : Loc nD τ sig) ↦{fullShare} f3 : sProp 𝕄) = (b3).view.loc tV ↦{fullShare} f3 from rfl)) $$ Hb3
  sl_unfold [cc0_copy_kernel]
  sl_exec
  sl_step
  -- the payloads the run named, the later copies before those they read from
  unfold run_body.sl.dma0_23 run_body.sl.dma0_22 run_body.sl.dma0_21 run_body.sl.dma0_20 run_body.sl.dma0_19 run_body.sl.dma0_18 run_body.sl.dma0_17 run_body.sl.dma0_16 run_body.sl.dma0_15 run_body.sl.dma0_14 run_body.sl.dma0_13 run_body.sl.dma0_12 run_body.sl.dma0_11 run_body.sl.dma0_10 run_body.sl.dma0_9 run_body.sl.dma0_8 run_body.sl.dma0_7 run_body.sl.dma0_6 run_body.sl.dma0_5 run_body.sl.dma0_4 run_body.sl.dma0_3 run_body.sl.dma0_2 run_body.sl.dma0_1 run_body.sl.dma0
  ihave Ho0' := (Entails.of_eq (o16_filled d L (b0).view _ 0#32 (k0_off3_inb L 0) x o)) $$ Ho0
  ihave Ho1' := (Entails.of_eq (o16_filled d L (b1).view _ 16#32 (k0_off3_inb L 1) x o)) $$ Ho1
  ihave Ho2' := (Entails.of_eq (o16_filled d L (b2).view _ 32#32 (k0_off3_inb L 2) x o)) $$ Ho2
  ihave Ho3' := (Entails.of_eq (o16_filled d L (b3).view _ 48#32 (k0_off3_inb L 3) x o)) $$ Ho3
  ihave Ho4' := (Entails.of_eq (o16_filled d L (b0).view _ 64#32 (k0_off3_inb L 4) x o)) $$ Ho4
  ihave Ho5' := (Entails.of_eq (o16_filled d L (b1).view _ 80#32 (k0_off3_inb L 5) x o)) $$ Ho5
  ihave Ho6' := (Entails.of_eq (o16_filled d L (b2).view _ 96#32 (k0_off3_inb L 6) x o)) $$ Ho6
  ihave Ho7' := (Entails.of_eq (o16_filled d L (b3).view _ 112#32 (k0_off3_inb L 7) x o)) $$ Ho7
  ihave Hq0' := (Entails.of_eq (o32_filled d L (shA L).view _ _ 0#32 (k0_off2_inb L 0) x o)) $$ Hq0
  ihave Hq1' := (Entails.of_eq (o32_filled d L (shB L).view _ _ 32#32 (k0_off2_inb L 1) x o)) $$ Hq1
  ihave Hq2' := (Entails.of_eq (o32_filled d L (shA L).view _ _ 64#32 (k0_off2_inb L 2) x o)) $$ Hq2
  ihave Hq3' := (Entails.of_eq (o32_filled d L (shB L).view _ _ 96#32 (k0_off2_inb L 3) x o)) $$ Hq3
  isplitl [Hx0 Hx1 Hx2 Hx3 Hx4 Hx5 Hx6 Hx7 Hy0 Hy1 Hy2 Hy3]
  · isplitl [Hx0 Hx1 Hx2 Hx3 Hx4 Hx5 Hx6 Hx7]
    · isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      iexact Hx7
    isplitl [Hy0]; · iexact Hy0
    isplitl [Hy1]; · iexact Hy1
    isplitl [Hy2]; · iexact Hy2
    iexact Hy3
  isplitl [Ho0' Ho1' Ho2' Ho3' Ho4' Ho5' Ho6' Ho7' Hq0' Hq1' Hq2' Hq3']
  · isplitl [Ho0' Ho1' Ho2' Ho3' Ho4' Ho5' Ho6' Ho7']
    · isplitl [Ho0']; · iexact Ho0'
      isplitl [Ho1']; · iexact Ho1'
      isplitl [Ho2']; · iexact Ho2'
      isplitl [Ho3']; · iexact Ho3'
      isplitl [Ho4']; · iexact Ho4'
      isplitl [Ho5']; · iexact Ho5'
      isplitl [Ho6']; · iexact Ho6'
      iexact Ho7'
    isplitl [Hq0']; · iexact Hq0'
    isplitl [Hq1']; · iexact Hq1'
    isplitl [Hq2']; · iexact Hq2'
    iexact Hq3'
  isplitl [HsA HsB]
  · iapply (sh_join d L _ _)
    isplitl [HsA]; · iexact HsA
    iexact HsB
  isplitl [Hb0' Hb1' Hb2' Hb3']
  · isplitl [Hb0']; · iexists _; iexact Hb0'
    isplitl [Hb1']; · iexists _; iexact Hb1'
    isplitl [Hb2']; · iexists _; iexact Hb2'
    iexists _; iexact Hb3'
  isplitl [Hc0 Hc1 Hc2 Hc3 Hc4 Hc5 Hc6 Hc7 Hc8 Hc9 Hc10 Hc11]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    iexact Hc11
  iexists _; iexact HO

end Tile

end Cert.Proof.Copy

end
-- ==== Proof.Launch.lean ====
/-
  The launch: the table and the result go out to the two SparseCores and their sixteen tiles each in bands of 256 rows, and come
  back with the result holding the table. From it the run of the whole program, over any float values.
-/
module

public import proofs.«01_k».proof.Proof.Tile

@[expose] public section

noncomputable section

namespace Cert.Proof.Copy

open Cert.KernelIdeal Cert.KernelIdeal.Gen

open Idealize.ShloMosaic
open Idealize.ShloMosaic.SparseCore (S V)
open Idealize.ShloMosaic.SparseCore.Cfg (HIx Pay ownBufs ownSems0 ownCells ownRefs mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- Tile `i` of SparseCore `c` holds its 256 rows of the table as at the start, and of the result at contents `o`. -/
abbrev rowsP (d : Dev nD) (o : Buf (Elt F) (oLoc d)) (c i : ℕ) : sProp 𝕄 :=
  iprop((xLoc d ↦[band (512 * i + 256 * c) 256]{fullShare} m (xLoc d)) ∗ oLoc d ↦[band (512 * i + 256 * c) 256]{fullShare} o)
/-- A tile's row of its SparseCore's shared scratch, at some contents. -/
abbrev shP (d : Dev nD) (c : Fin τ.nSC) (i : ℕ) : sProp 𝕄 := iprop(∃ f, shLoc d c ↦[shRow i]{fullShare} f)

/-- A SparseCore takes its sixteen tiles' rows of the table and of the result; a tile takes its own, and its row of the shared
    scratch. On the way back the result's rows hold the table's. -/
def P : (K (F := F)).Pay (nD := nD) (Val := Elt F) (Name := ℕ) (U := UU) where
  st := fun _ d c => bigSep Finset.univ fun i : Fin 16 => rowsP m d (m (oLoc d)) c.val i.val
  dn := fun _ d c => bigSep Finset.univ fun i : Fin 16 => rowsP m d (m (xLoc d)) c.val i.val
  go := fun q d c i => iprop(rowsP m d (m (oLoc d)) c.val i.val ∗ shP d ((K (F := F)).core q c) i.val)
  td := fun q d c i => iprop(rowsP m d (m (xLoc d)) c.val i.val ∗ shP d ((K (F := F)).core q c) i.val)
  x := fun _ _ => iprop(emp)

instance P_storable : (P (F := F) m).IsStorable where
  st _ d c := (inferInstance : BI.Storable (upEmb : UEmb _ 𝕄) (bigSep Finset.univ fun i : Fin 16 => rowsP m d (m (oLoc d)) c.val i.val))
  dn _ d c := (inferInstance : BI.Storable (upEmb : UEmb _ 𝕄) (bigSep Finset.univ fun i : Fin 16 => rowsP m d (m (xLoc d)) c.val i.val))
  go q d c i := (inferInstance : BI.Storable (upEmb : UEmb _ 𝕄) iprop(rowsP m d (m (oLoc d)) c.val i.val ∗ shP d ((K (F := F)).core q c) i.val))
  td q d c i := (inferInstance : BI.Storable (upEmb : UEmb _ 𝕄) iprop(rowsP m d (m (xLoc d)) c.val i.val ∗ shP d ((K (F := F)).core q c) i.val))

variable [FloatOps F]

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

/-- A tile runs its task from what it is handed, to what it hands back. -/
theorem tile_task (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp
        ∗ (rowsP m d (m (oLoc d)) (L 0).val (L 1).val ∗ shP d (cV L) (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_copy_kernel L (Memref.whole main_arg1_scv) (Memref.isWhole_whole _) (Memref.whole main_v0_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scratch11 cc0_scratch12 cc0_scratch13 cc0_scratch14 cc0_scratch15 cc0_scratch16)
          fun _ => iprop((rowsP m d (m (xLoc d)) (L 0).val (L 1).val ∗ shP d (cV L) (L 1).val)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨⟨Hx, Ho⟩, ⟨%s, Hs⟩⟩, ⟨Hb, Hbufs⟩, ⟨Hc, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r frame (wpE (defs₀ (F := F)) 𝒱₀ (V d (cV L) (jV L)) none))
  isplitl [Hx Ho Hs Hb Hc HO]
  · iapply (run_body d L O W (m (xLoc d)) (m (oLoc d)) s)
    isplitr; · iexact Hmw
    isplitl [Hx]; · iexact Hx
    isplitl [Ho]; · iexact Ho
    isplitl [Hs]; · iexact Hs
    isplitl [Hb]; · iexact Hb
    isplitl [Hc]; · iexact Hc
    iexact HO
  iintro %_ ⟨Hx, Ho, Hs, Hb, Hc, ⟨%W', HO⟩⟩
  isplitl [Hx Ho Hs]
  · isplitl [Hx Ho]
    · isplitl [Hx]; · iexact Hx
      iexact Ho
    iexact Hs
  isplitl [Hb Hbufs]
  · isplitl [Hb]; · iexact Hb
    iexact Hbufs
  isplitl [Hc Hsems]
  · isplitl [Hc]; · iexact Hc
    iexact Hsems
  iexists W'; isplitr
  swap; · iexact HO
  -- there is one call, so whatever wait was recorded is at no call or at it
  ipureintro; intro p _
  rcases p.2 with _ | q
  · exact .inr (.inl rfl)
  · exact .inr (.inr (congrArg some (Subsingleton.elim q 0)))

theorem defs₀_vector (c : Fin τ.nSC) (s : Fin τ.nSub) :
    defs₀ (F := F) (.scVector c s) 0 ()
      = SparseCore.onTile hcore0 hsub0 (fun c s => cc0_copy_kernel (coordsV c s) (Memref.whole main_arg1_scv) (Memref.isWhole_whole _) (Memref.whole main_v0_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scratch11 cc0_scratch12 cc0_scratch13 cc0_scratch14 cc0_scratch15 cc0_scratch16) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task m hF d (coordsV ⟨_, hci.1⟩ ⟨_, hci.2⟩) O W hO

/-! ## How the rows split and join -/

omit [FloatOps F] in
/-- The table whole is its 32 tiles' bands, SparseCore by SparseCore. -/
theorem x_whole (d : Dev nD) (f : Buf (Elt F) (xLoc d)) :
    (xLoc d ↦{fullShare} f : sProp 𝕄)
      = bigSep Finset.univ fun c : Fin 2 => bigSep Finset.univ fun i : Fin 16 => xLoc d ↦[band (512 * i.val + 256 * c.val) 256]{fullShare} f := by
  rw [bigSep_univ_comm (fun (c : Fin 2) (i : Fin 16) => (xLoc d ↦[band (512 * i.val + 256 * c.val) 256]{fullShare} f : sProp 𝕄))]
  have h (i : Fin 16) : (bigSep Finset.univ fun c : Fin 2 => (xLoc d ↦[band (512 * i.val + 256 * c.val) 256]{fullShare} f : sProp 𝕄))
      = xLoc d ↦[band (0 + 512 * i.val) 512]{fullShare} f := by
    rw [← pointsTo_biUnion Finset.univ (ℓ := xLoc d) (fun c : Fin 2 => band (512 * i.val + 256 * c.val) 256) (bands_disjoint _ _ _), band_cover, Nat.zero_add]
  simp only [h]
  rw [← pointsTo_biUnion Finset.univ (ℓ := xLoc d) (fun i : Fin 16 => band (0 + 512 * i.val) 512) (bands_disjoint _ _ _), band_cover]
  exact congrArg (fun S => (xLoc d ↦[S]{fullShare} f : sProp 𝕄)) band_univ.symm
omit [FloatOps F] in
/-- The result whole likewise. -/
theorem o_whole (d : Dev nD) (f : Buf (Elt F) (oLoc d)) :
    (oLoc d ↦{fullShare} f : sProp 𝕄)
      = bigSep Finset.univ fun c : Fin 2 => bigSep Finset.univ fun i : Fin 16 => oLoc d ↦[band (512 * i.val + 256 * c.val) 256]{fullShare} f := by
  rw [bigSep_univ_comm (fun (c : Fin 2) (i : Fin 16) => (oLoc d ↦[band (512 * i.val + 256 * c.val) 256]{fullShare} f : sProp 𝕄))]
  have h (i : Fin 16) : (bigSep Finset.univ fun c : Fin 2 => (oLoc d ↦[band (512 * i.val + 256 * c.val) 256]{fullShare} f : sProp 𝕄))
      = oLoc d ↦[band (0 + 512 * i.val) 512]{fullShare} f := by
    rw [← pointsTo_biUnion Finset.univ (ℓ := oLoc d) (fun c : Fin 2 => band (512 * i.val + 256 * c.val) 256) (bands_disjoint _ _ _), band_cover, Nat.zero_add]
  simp only [h]
  rw [← pointsTo_biUnion Finset.univ (ℓ := oLoc d) (fun i : Fin 16 => band (0 + 512 * i.val) 512) (bands_disjoint _ _ _), band_cover]
  exact congrArg (fun S => (oLoc d ↦[S]{fullShare} f : sProp 𝕄)) band_univ.symm

omit [FloatOps F] in
/-- The two arrays whole are what the two SparseCores take. -/
theorem rows_whole (d : Dev nD) (o : Buf (Elt F) (oLoc d)) :
    (bigSep Finset.univ fun c : Fin 2 => bigSep Finset.univ fun i : Fin 16 => rowsP m d o c.val i.val)
      = iprop((xLoc d ↦{fullShare} m (xLoc d)) ∗ oLoc d ↦{fullShare} o) := by
  rw [x_whole, o_whole, ← bigSep_sep']
  exact bigSep_congr fun c _ => bigSep_sep' _ _ _

omit [FloatOps F] in
/-- The shared scratch whole is its sixteen rows, -/
theorem sh_whole (d : Dev nD) (c : Fin τ.nSC) (f : Buf (Elt F) (shLoc d c)) :
    (shLoc d c ↦{fullShare} f : sProp 𝕄) = bigSep Finset.univ fun i : Fin 16 => shLoc d c ↦[shRow i.val]{fullShare} f := by
  rw [← pointsTo_biUnion Finset.univ (ℓ := shLoc d c) (fun i : Fin 16 => shRow i.val) shRow_disjoint, shRow_cover]
omit [FloatOps F] in
/-- and is dealt and gathered again row by row, each at some contents. -/
theorem sh_deal (d : Dev nD) (c : Fin τ.nSC) (f : Buf (Elt F) (shLoc d c)) :
    (shLoc d c ↦{fullShare} f : sProp 𝕄) ⊢ bigSep Finset.univ fun i : Fin 16 => shP d c i.val :=
  (Entails.of_eq (sh_whole d c f)).trans (SparseCore.ent (bigSep_mono (Φ := fun i : Fin 16 => (shLoc d c ↦[shRow i.val]{fullShare} f : sProp 𝕄))
    (Ψ := fun i => shP d c i.val) fun i _ => BI.BIClass.exists_intro (Φ := fun f => (shLoc d c ↦[shRow i.val]{fullShare} f : sProp 𝕄)) f))
omit [FloatOps F] in
theorem sh_gather [∀ e, Nonempty (Elt F e)] (d : Dev nD) (c : Fin τ.nSC) :
    (bigSep Finset.univ fun i : Fin 16 => shP d c i.val) ⊢ (iprop(∃ f, shLoc d c ↦{fullShare} f) : sProp 𝕄) := by
  haveI : Nonempty (Buf (Elt F) (shLoc d c)) := ⟨fun _ => Classical.arbitrary _⟩
  refine (bigSep_exists_pi Finset.univ (fun (i : Fin 16) (f : Buf (Elt F) (shLoc d c)) => (shLoc d c ↦[shRow i.val]{fullShare} f : sProp 𝕄))).trans ?_
  iintro ⟨%fs, H⟩
  ihave H' := (pointsTo_biUnion_join (ℓ := shLoc d c) Finset.univ (fun i : Fin 16 => shRow i.val) fs (fs 0) shRow_disjoint) $$ H
  icases H' with ⟨%g, -, Hg⟩
  rw [shRow_cover]
  iexists g; iexact Hg

omit [FloatOps F] in
/-- The shared scratch is among its sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit [∀ e, Nonempty (Elt F e)] : (K (F := F)).VecSplit (P m) 0 := by
  intro d c
  show iprop((bigSep Finset.univ fun i : Fin 16 => rowsP m d (m (oLoc d)) c.val i.val) ∗ ownBufs (S d ((K (F := F)).core 0 c))) ⊢ |={Set.univ}=> iprop(
      (bigSep Finset.univ fun i : Fin 16 => iprop(rowsP m d (m (oLoc d)) c.val i.val ∗ shP d ((K (F := F)).core 0 c) i.val))
      ∗ ((bigSep Finset.univ fun i : Fin 16 => iprop(rowsP m d (m (xLoc d)) c.val i.val ∗ shP d ((K (F := F)).core 0 c) i.val))
          -∗ iprop((bigSep Finset.univ fun i : Fin 16 => rowsP m d (m (xLoc d)) c.val i.val) ∗ ownBufs (S d ((K (F := F)).core 0 c)))))
  rw [bigSep_sep' _ (fun i : Fin 16 => rowsP m d (m (oLoc d)) c.val i.val), bigSep_sep' _ (fun i : Fin 16 => rowsP m d (m (xLoc d)) c.val i.val), ownBufs_S]
  iintro ⟨Hr, ⟨%f, Hs⟩, Hrest⟩; imodintro
  isplitl [Hr Hs]
  · isplitl [Hr]; · iexact Hr
    iapply (sh_deal d _ f); iexact Hs
  iintro ⟨Hr, Hs⟩
  isplitl [Hr]; · iexact Hr
  isplitl [Hs]; · iapply (sh_gather d _); iexact Hs
  iexact Hrest

/-! ## The launch element: the handshakes' rounds, nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => (iprop(emp) : sProp 𝕄)) = iprop(emp) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((pLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) :
    (bigSep Finset.univ fun c : Fin ((K (F := F)).nCore 0) => (P m).st 0 d c) = iprop((xLoc d ↦{fullShare} m (xLoc d)) ∗ oLoc d ↦{fullShare} m (oLoc d)) :=
  rows_whole m d (m (oLoc d))
theorem dn0_eq (d : Dev nD) :
    (bigSep Finset.univ fun c : Fin ((K (F := F)).nCore 0) => (P m).dn 0 d c)
      = iprop((xLoc d ↦{fullShare} m (xLoc d)) ∗ oLoc d ↦{fullShare} (m (xLoc d) : Buf (Elt F) (oLoc d))) :=
  rows_whole m d (m (xLoc d))

/-- What @main ends with: the arguments as they were, the result at the table's contents. -/
abbrev FIN (d : Dev nD) : sProp 𝕄 :=
  iprop((pLoc d ↦{fullShare} m (pLoc d)) ∗ (xLoc d ↦{fullShare} m (xLoc d)) ∗ oLoc d ↦{fullShare} (m (xLoc d) : Buf (Elt F) (oLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Hx, Ho⟩, Hts, -⟩, -⟩
  iapply ((K (F := F)).wp_run (D (F := F)) 𝒱 (EH := EH) (P := P m) κ d 0) $$ [Hst Hp Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitr [Hb Hts]
  · isplitl [Hp]; · iexact Hp
    isplitl [Hx]; · iexact Hx
    iexact Ho
  isplitl [Hb] <;> iassumption

def fq (d : Dev nD) (s' : Phys nD τ sig (Elt F)) : Prop :=
  s'.mem.mem (pLoc d) = m (pLoc d) ∧ s'.mem.mem (xLoc d) = m (xLoc d) ∧ s'.mem.mem (oLoc d) = m (xLoc d)

theorem hfin (d : Dev nD) (s' : Phys nD τ sig (Elt F)) : iprop(FIN m d ∗ SI s') ⊢ (⌜fq m d s'⌝ : sProp 𝕄) := by
  iintro ⟨⟨Hp, Hx, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := m (xLoc d))) $$ [HSI Ho]
  · isplitl [HSI] <;> iassumption
  icases H with %ho
  ipureintro
  exact ⟨funext fun i => hp i (Finset.mem_univ i), funext fun i => hx i (Finset.mem_univ i), funext fun i => ho i (Finset.mem_univ i)⟩

/-! ## The run -/

/-- The final memory: on every device both arguments as at the start, the result equal to the table; every semaphore at zero. -/
def QC : PUnit × MemSt nD τ sig (Elt F) → Prop := fun r =>
  (∀ d : Dev nD, r.2.mem (pLoc d) = m (pLoc d) ∧ r.2.mem (xLoc d) = m (xLoc d) ∧ r.2.mem (oLoc d) = m (xLoc d)) ∧ r.2.sem = fun _ => 0

/-- The program runs to `QC`, whatever its float values are. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.Proof.Copy

end
-- ==== Proof.Lookup.lean ====
/-
  What the reference computes: looking up the rows numbered 0, 1, …, 8191 of an 8192-row table gives the table. Its row numbers are
  never negative and never past the last row, so neither the wrapping of negative numbers nor the out-of-range fill changes anything.
-/
module

public import proofs.«01_k».proof.Proof.Gen.ReferenceIdeal.Run
public import Idealize.ShloMosaic.Lib.Routing.Ops
public import Idealize.ShloMosaic.Lib.WordCmp
public import Idealize.ShloMosaic.Lib.ValueIdx

@[expose] public section

noncomputable section

namespace Cert.Proof.Lookup

open Cert.ReferenceIdeal Cert.ReferenceIdeal.Gen
open Idealize.ShloMosaic Idealize.ShloMosaic.ValueIdx Idealize.SL.Sem

/-- The row numbers: `0, 1, …, 8191`, a negative one moved up by 8192. -/
def rowNos : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0)
/-- The same as a column. -/
def rowCol : IVec S8192x1 32 := broadcastInDim S8192x1 ![0] bcast_S8192_S8192x1_0 rowNos
/-- Which row numbers name a row of the table. -/
def inRange : IVec S8192x1 1 :=
  andi (cmpi .sge rowCol (broadcastInDim S8192x1 ![] bcast_S_S8192x1 (constantI S_ 32 0#32)))
    (cmpi .sle rowCol (broadcastInDim S8192x1 ![0, 1] bcast_S1x1_S8192x1_0_1 (broadcastInDim S1x1 ![1] bcast_S1_S1x1_1 (constantI S1 32 8191#32))))
/-- Per row, whether it is looked up or filled. -/
def keep : IVec S8192 1 := Host.reduce IntOp.andi inRange (constantI S_ 1 1#1) reducesTo_S8192x1_S8192_d1 h_S_

/-- None is negative: row number `r` is `r`. -/
theorem rowNos_at (j : S8192.Idx) : rowNos j = BitVec.ofNat 32 (j 0).val := by
  have hj : (j 0).val < 8192 := (j 0).isLt
  show Scalar.select (IntOp.cmpi .slt (BitVec.ofNat 32 (j 0).val) (BitVec.ofNat 32 0)) _ (BitVec.ofNat 32 (j 0).val) = _
  exact WordCmp.select_of_eq_zero ((WordCmp.cmpi_slt_ofNat_eq_zero_iff (by omega) (by omega)).2 (Nat.not_lt_zero _)) _ _

theorem rowCol_at (j : S8192x1.Idx) : rowCol j = BitVec.ofNat 32 (j 0).val :=
  (broadcastInDim_apply (s := S8192) ![0] bcast_S8192_S8192x1_0 rowNos j (ix1 (j 0)) (fun a => match a with | ⟨0, _⟩ => rfl)).trans (rowNos_at _)

/-- Every row number is in range. -/
theorem inRange_eq : inRange = fun _ => 1#1 := by
  funext j
  have hj : (j 0).val < 8192 := (j 0).isLt
  show IntOp.andi (IntOp.cmpi .sge (rowCol j) (BitVec.ofNat 32 0)) (IntOp.cmpi .sle (rowCol j) (BitVec.ofNat 32 8191)) = 1#1
  rw [rowCol_at, (WordCmp.cmpi_sge_ofNat_eq_one_iff (by omega) (by omega)).2 (Nat.zero_le _),
    (WordCmp.cmpi_sle_ofNat_eq_one_iff (by omega) (by omega)).2 (by omega)]
  rfl

/-- Every row is looked up. -/
theorem keep_eq : keep = fun _ => 1#1 := by
  funext j
  unfold keep
  rw [inRange_eq, Host.reduce_eq_foldl]
  generalize List.filter _ _ = l
  show l.foldl (fun r _ => IntOp.andi r 1#1) 1#1 = 1#1
  induction l with
  | nil => rfl
  | cons _ _ ih => exact ih

/-- The looked-up rows of `x`, with `z` where a row number is out of range. -/
def rows {α : Type} (x z : S8192x1024.Idx → α) : S8192x1024.Idx → α :=
  select (broadcastInDim S8192x1024 ![0] bcast_S8192_S8192x1024_0 keep)
    (Host.gather gather_S8192x1024_S8192x1_S8192x1024_1_0_n_n_0_1_11024 x rowCol) z

/-- They are `x`. -/
theorem rows_eq {α : Type} (x z : S8192x1024.Idx → α) : rows x z = x := by
  funext j
  unfold rows
  rw [keep_eq]
  show Host.gather _ x rowCol j = x j
  have hj : j = ix2 (j 0) (j 1) := by funext a; match a with | ⟨0, _⟩ => rfl | ⟨1, _⟩ => rfl
  conv_lhs => rw [hj]
  conv_rhs => rw [hj]
  exact Routing.gather_row _ rfl rfl rfl rfl rfl x rowCol (j 0) (j 1) (j 0) (rowCol_at _) (by decide)

variable {F : FTy → Type} [FloatOps F]

/-- The reference runs, over any float values: on every device the result ends equal to the table, the arguments as at the start;
    it declares no semaphore. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = m ((c.tc : Thread nD τ).loc main_arg1)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c).1.trans (rows_eq (m ((c.tc : Thread nD τ).loc main_arg1)) _), (h c).2⟩,
    sem_eq_zero_of_no_sems (by decide) r.2⟩) (Value.run m ρ)

end Cert.Proof.Lookup

end
-- ==== Proof.lean ====
/-
  The proof of `Cert.Claim`. The kernel copies the table to the result, tile by tile, through each tile's own buffers and its row of
  the SparseCore's shared scratch; the reference looks up the table's rows 0, 1, …, 8191. Both end with the result equal to the table.
  Each program's run is proved once, over any float values (Proof/Launch.lean, Proof/Lookup.lean), and read here at words and at
  extended reals.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Launch
public import proofs.«01_k».proof.Proof.Lookup
public import Idealize.ShloMosaic.Adequacy
public import Idealize.ShloMosaic.Init

@[expose] public section

noncomputable section

namespace Cert.Proof

open Idealize.ShloMosaic Idealize.SL.Sem

/-- The kernel, as printed, runs; its arguments end unchanged and every counter at zero. -/
theorem frame_kernel : Cert.quiescent_Kernel := fun m ρ _ =>
  (θ_run Cert.KernelIdeal.defs _ _).mono (fun _ h => ⟨fun c => ⟨(h.1 c).1, (h.1 c).2.1⟩, h.2⟩) (Copy.run_main (F := Bits) m ρ)

/-- The same of the ideal kernel. -/
theorem frame_kernelIdeal : Cert.quiescent_KernelIdeal := fun m ρ _ =>
  (θ_run Cert.KernelIdeal.defs _ _).mono (fun _ h => ⟨fun c => ⟨(h.1 c).1, (h.1 c).2.1⟩, h.2⟩) (Copy.run_main (F := Ideal) m ρ)

/-- The same of the ideal reference, -/
theorem frame_referenceIdeal : Cert.quiescent_ReferenceIdeal := fun m ρ _ =>
  (θ_run Cert.ReferenceIdeal.defs _ _).mono (fun _ h => ⟨fun c => (h.1 c).2, h.2⟩) (Lookup.run_main (F := Ideal) m ρ)

/-- and of the reference as printed. -/
theorem frame_reference : Cert.quiescent_Reference := fun m ρ _ =>
  (θ_run Cert.ReferenceIdeal.defs _ _).mono (fun _ h => ⟨fun c => (h.1 c).2, h.2⟩) (Lookup.run_main (F := Bits) m ρ)

/-- Over the extended reals the kernel's result and the reference's are both the table. -/
theorem algebraic : Cert.algebraic_KernelIdeal_ReferenceIdeal := fun m ρ m' ρ' _ hag =>
  ⟨fun c => m (Copy.xLoc c),
    (θ_run Cert.KernelIdeal.defs _ _).mono (fun _ h c => ⟨(h.1 c).2.2, (h.1 c).1, (h.1 c).2.1⟩) (Copy.run_main (F := Ideal) m ρ),
    (θ_run Cert.ReferenceIdeal.defs _ _).mono (fun _ h c => ⟨(h.1 c).1.trans (hag c).2, (h.1 c).2⟩) (Lookup.run_main (F := Ideal) m' ρ')⟩

/-- Bit for bit likewise. -/
theorem bitexact : Cert.bitexact_Kernel_Reference := fun m ρ m' ρ' _ hag =>
  ⟨fun c => m (Copy.xLoc c),
    (θ_run Cert.KernelIdeal.defs _ _).mono (fun _ h c => ⟨(h.1 c).2.2, (h.1 c).1, (h.1 c).2.1⟩) (Copy.run_main (F := Bits) m ρ),
    (θ_run Cert.ReferenceIdeal.defs _ _).mono (fun _ h c => ⟨(h.1 c).1.trans (hag c).2, (h.1 c).2⟩) (Lookup.run_main (F := Bits) m' ρ')⟩

theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
